-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x3 : Shape := ⟨2, ![4096, 3]⟩
abbrev S_ : Shape := ⟨0, ![]⟩

class Facts : Prop where
  bcast_S_S4096x3 : S_.BroadcastsInDim S4096x3 (![] : Fin 0 → Fin S4096x3.rank)

variable [Facts]

def fn {F : FTy → Type} [FloatOps F] (main_arg0 : FVec F S4096x3 .f32) : IVec S4096x3 1 :=
  let main_cst : FVec F S_ .f32 := constant S_ .f32 0xFF800000#32
  let main_v0 : FVec F S4096x3 .f32 := broadcastInDim S4096x3 ![] bcast_S_S4096x3 main_cst
  let main_v1 : IVec S4096x3 1 := cmpf .ogt main_arg0 main_v0
  let main_cst_0 : FVec F S_ .f32 := constant S_ .f32 0x7F800000#32
  let main_v2 : FVec F S4096x3 .f32 := broadcastInDim S4096x3 ![] bcast_S_S4096x3 main_cst_0
  let main_v3 : IVec S4096x3 1 := cmpf .olt main_arg0 main_v2
  let main_v4 : IVec S4096x3 1 := andi main_v1 main_v3
  main_v4
-- ==== Kernel.lean ====
abbrev S4096x3 : Shape := ⟨2, ![4096, 3]⟩
abbrev S3x4096 : Shape := ⟨2, ![3, 4096]⟩
abbrev S4096x1 : Shape := ⟨2, ![4096, 1]⟩
abbrev S1x4096 : Shape := ⟨2, ![1, 4096]⟩
abbrev S4096x4096 : Shape := ⟨2, ![4096, 4096]⟩
abbrev S256x3 : Shape := ⟨2, ![256, 3]⟩
abbrev S256x1 : Shape := ⟨2, ![256, 1]⟩
abbrev S256 : Shape := ⟨1, ![256]⟩
abbrev S4096 : Shape := ⟨1, ![4096]⟩
abbrev S256x4096 : Shape := ⟨2, ![256, 4096]⟩
abbrev S256x2048 : Shape := ⟨2, ![256, 2048]⟩
abbrev S256x1024 : Shape := ⟨2, ![256, 1024]⟩
abbrev S256x512 : Shape := ⟨2, ![256, 512]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 5
  | .vmem => 13
  | .smem => 0
  | _ => 0

abbrev bufTy : (tb : Table) → Fin (tcTables nBuf tb) → BufTy
  | .hbm, ⟨0, _⟩ => ⟨S4096x3, .f32⟩
  | .hbm, ⟨1, _⟩ => ⟨S3x4096, .f32⟩
  | .hbm, ⟨2, _⟩ => ⟨S4096x1, .f32⟩
  | .hbm, ⟨3, _⟩ => ⟨S1x4096, .f32⟩
  | .hbm, ⟨4, _⟩ => ⟨S4096x4096, .f32⟩
  | .local _ .vmem, ⟨0, _⟩ => ⟨S256x3, .f32⟩
  | .local _ .vmem, ⟨1, _⟩ => ⟨S256x3, .f32⟩
  | .local _ .vmem, ⟨2, _⟩ => ⟨S3x4096, .f32⟩
  | .local _ .vmem, ⟨3, _⟩ => ⟨S256x1, .f32⟩
  | .local _ .vmem, ⟨4, _⟩ => ⟨S256x1, .f32⟩
  | .local _ .vmem, ⟨5, _⟩ => ⟨S256x3, .f32⟩
  | .local _ .vmem, ⟨6, _⟩ => ⟨S256x3, .f32⟩
  | .local _ .vmem, ⟨7, _⟩ => ⟨S3x4096, .f32⟩
  | .local _ .vmem, ⟨8, _⟩ => ⟨S256x1, .f32⟩
  | .local _ .vmem, ⟨9, _⟩ => ⟨S256x1, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![16], ![false]⟩

@[reducible] def k0_t1_loop (v147 : BitVec 32) : Scf.Loop 32 :=
  let c0_i32 : BitVec 32 := 0#32
  let v148 : BitVec 32 := Scalar.subi v147 c0_i32
  let c1_i32 : BitVec 32 := 1#32
  let v150 : BitVec 32 := Scalar.divsi v148 c1_i32
  let v151 : BitVec 32 := Scalar.muli v150 c1_i32
  let v152 : BitVec 32 := Scalar.addi c0_i32 v151
  let c1_i32_48 : BitVec 32 := 1#32
  ⟨c0_i32, v152, c1_i32_48⟩

@[reducible] def k0_t2_loop (v147 : BitVec 32) : Scf.Loop 32 :=
  let c0_i32 : BitVec 32 := 0#32
  let v148 : BitVec 32 := Scalar.subi v147 c0_i32
  let c1_i32 : BitVec 32 := 1#32
  let v150 : BitVec 32 := Scalar.divsi v148 c1_i32
  let v151 : BitVec 32 := Scalar.muli v150 c1_i32
  let v152 : BitVec 32 := Scalar.addi c0_i32 v151
  let v149 : BitVec 32 := Scalar.addi c0_i32 v148
  let c1_i32_49 : BitVec 32 := 1#32
  ⟨v152, v149, c1_i32_49⟩

def k0_chk1 (v147 : BitVec 32) : Prop :=
  ((k0_t1_loop v147).OK) ∧
  ((k0_t2_loop v147).OK)
theorem k0_t1_ok : ∀ (v147 : BitVec 32) (k0_hw1 : k0_chk1 v147), (k0_t1_loop v147).OK := fun v147 k0_hw1 => k0_hw1.1
theorem k0_t2_ok : ∀ (v147 : BitVec 32) (k0_hw1 : k0_chk1 v147), (k0_t2_loop v147).OK := fun v147 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4096x3 : Shape := ⟨2, ![4096, 3]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S3x4096 : Shape := ⟨2, ![3, 4096]⟩
abbrev S4096x16 : Shape := ⟨2, ![4096, 16]⟩

abbrev nBuf : Space → Nat
  | .hbm => 53
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S3x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x16, .f32⟩
  | .hbm, ⟨20, _⟩ => ⟨S4096x16, .i32⟩
  | .hbm, ⟨21, _⟩ => ⟨S4096x16, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x1, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .i1⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.KernelRun.lean ====
/- The kernel program's run with what the result array holds at the end.  The generated frame keeps only the arguments; the
   same launch also gives every array at the last boundary, so the result is read there: it is the array that the second
   region's write-backs leave. -/
module

public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution ends with the result array at what the second region's write-backs leave of it and the
    argument array as launched. -/
theorem run : θ_run defs (onTc (τ := τ) (main (F := F))) ⟨m, fun _ => 0, ρ⟩ (fun r => ∀ c : Dev nD,
      r.2.mem ((c.tc : Thread nD τ).loc main_v0) = (dat1 (V3 m ρ) c).arrAt 4 cfg1.N
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v0 (by decide))).trans (W4_arr m ρ c 4),
        (h c _ (mem_uc main_arg0 (by decide))).trans (W4_main_arg0 m ρ c)⟩)

end Cert.KernelIdeal.Hand

end
-- ==== Proof.DtmBlock.lean ====
/- What one point of the first region stores: the block's payload, named.  The body loads its two blocks, runs the counted
   loop over registers and stores one column; the pieces that the generated run finds are that one store. -/
module

public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

/-- What the drop loop carries: the candidate distances, how many are dropped, their sum, the value dropped last. -/
abbrev Carried (F : FTy → Type) : Type :=
  FVec F S256x4096 .f32 × FVec F S256x1 .f32 × FVec F S256x1 .f32 × FVec F S256x1 .f32

/-- One trip of the drop loop, over the candidates' counts `n`. -/
def dropTrip (n : FVec F S256x1 .f32) (a : Carried F) : Carried F :=
  (k0_pay10 n a.1 a.2.1, k0_pay11 n a.1 a.2.1, k0_pay12 n a.1 a.2.1 a.2.2.1, k0_pay13 n a.1 a.2.1 a.2.2.2)

/-- The threshold after the first ten selection rounds. -/
def thrTen (x0 : Vec F S256x3 .f32) (x1 : Vec F S3x4096 .f32) : FVec F S256x1 .bf16 :=
  k0_pay27 (k0_pay24 x0 x1) (k0_pay25 x0 x1) (k0_pay26 (F := F))
/-- Which points are candidates. -/
def candMask (x0 : Vec F S256x3 .f32) (x1 : Vec F S3x4096 .f32) : IVec S256x4096 1 :=
  k0_pay28 (k0_pay23 x0 x1) (k0_pay24 x0 x1) (thrTen x0 x1)
/-- How many points of each row are candidates. -/
def candCount (x0 : Vec F S256x3 .f32) (x1 : Vec F S3x4096 .f32) : FVec F S256x1 .f32 :=
  k0_pay29 (k0_pay23 x0 x1) (k0_pay24 x0 x1) (thrTen x0 x1)
/-- What the drop loop starts from. -/
def dropStart (x0 : Vec F S256x3 .f32) (x1 : Vec F S3x4096 .f32) : Carried F :=
  (k0_pay3 (k0_pay23 x0 x1) (candMask x0 x1), k0_pay4 (F := F),
    k0_pay1 (k0_pay23 x0 x1) (candMask x0 x1) (Scalar.ofBits .f32 0x00000000#32), k0_pay4 (F := F))
/-- The number of trips, as the kernel computes it from the counts. -/
def dropTrips (n : FVec F S256x1 .f32) : Nat := (k0_t1_loop (Scalar.fptosi 32 (k0_pay5 n))).trips
/-- What the drop loop ends with. -/
def dropEnd (x0 : Vec F S256x3 .f32) (x1 : Vec F S3x4096 .f32) : Carried F :=
  (dropTrip (candCount x0 x1))^[dropTrips (candCount x0 x1)] (dropStart x0 x1)
/-- The column stored: the distance to measure of the block's 256 points. -/
def dtmCol (x0 : Vec F S256x3 .f32) (x1 : Vec F S3x4096 .f32) : FVec F S256x1 .f32 :=
  k0_pay22 (candCount x0 x1) (dropEnd x0 x1).2.1 (dropEnd x0 x1).2.2.1 (dropEnd x0 x1).2.2.2

/-- A fold whose step does not look at the trip is the step iterated. -/
theorem fold_const {σ : Type} {n : Nat} (g : σ → σ) (init : σ) : Scf.fold (n := n) (fun _ a => g a) init = g^[n] init := by
  rw [Scf.fold_eq]
  have h : ∀ (l : List (Fin n)) (a : σ), l.foldl (fun acc _ => g acc) a = g^[l.length] a := by
    intro l
    induction l with
    | nil => intro a; rfl
    | cons k l ih => intro a; rw [List.foldl_cons, ih, List.length_cons, Function.iterate_succ_apply]
  rw [h, List.length_finRange]

/-- A fold over no trip is its start. -/
theorem fold_none {σ : Type} {n : Nat} (hn : n = 0) (g : Fin n → σ → σ) (init : σ) : Scf.fold g init = init := by
  subst hn; rw [Scf.fold_eq]; rfl

/-- The printed zero offsets. -/
theorem zero_offset : (![0, 0] : Fin 2 → Nat) = fun _ => 0 := funext fun a => by fin_cases a <;> rfl

/-- What the first region leaves in a block's output buffer: `dtmCol` of the two blocks it reads. -/
theorem outCol (c : Dev nD) (i : grid0.Coords) (arg1 : Memref sig .tc .vmem S256x3 .f32) (harg1 : arg1.IsWhole)
    (arg2 : Memref sig .tc .vmem S3x4096 .f32) (harg2 : arg2.IsWhole) (arg3 : Memref sig .tc .vmem S256x1 .f32) (harg3 : arg3.IsWhole)
    (x0 : Vec F S256x3 .f32) (x1 : Vec F S3x4096 .f32) :
    out0_A_2 c i arg1 harg1 arg2 harg2 arg3 harg3 x0 x1 = dtmCol x0 x1 := by
  unfold out0_A_2
  rw [View.read_writes_eq_canon _ _ _ (cover0_A_2 c i arg1 harg1 arg2 harg2 arg3 harg3 x0 x1)]
  unfold kernelRun0_A
  dsimp only
  sl_unfold_words
  rw [View.canon_unit_zero zero_offset]
  have e0 : View.readAt (Elt F) arg1.view (Rect.unit (s := S256x3) ![0, 0] S256x3.size inb_S256x3_S256x3_0_0).toLoadRect
      (harg1.unread x0) = x0 := by
    rw [View.readAt_eq_ld, harg1.read_unread, View.ld_unit_zero (S := S256x3) zero_offset]
  have e1 : View.readAt (Elt F) arg2.view (Rect.unit (s := S3x4096) ![0, 0] S3x4096.size inb_S3x4096_S3x4096_0_0).toLoadRect
      (harg2.unread x1) = x1 := by
    rw [View.readAt_eq_ld, harg2.read_unread, View.ld_unit_zero (S := S3x4096) zero_offset]
  rw [e0, e1]
  simp only [fold_none (Nat.le_zero.mp (k0_t2_abs _).2.1)]
  unfold dtmCol dropEnd dropTrips
  rw [← fold_const]
  unfold dropTrip dropStart candCount candMask thrTen
  generalize k0_pay23 x0 x1 = P23
  generalize k0_pay24 x0 x1 = P24
  generalize k0_pay25 x0 x1 = P25
  generalize k0_pay27 P24 P25 k0_pay26 = P27
  generalize k0_pay28 P23 P24 P27 = P28
  generalize k0_pay29 P23 P24 P27 = P29
  generalize Scalar.fptosi 32 (k0_pay5 P29) = w
  rfl

end Cert.KernelIdeal.Hand

end
-- ==== Proof.RowModel.lean ====
/- The mathematics of one row, apart from any program: the distances `d` from one point to all points.
   1. `IsNearSum`: the sum of the `m` smallest distances, as the sum over SOME set of `m` indices with nothing smaller outside;
      there is only one such sum (`IsNearSum.unique`).
   2. `nextMin`: one selection round, the least group minimum above the threshold so far; after `n` rounds from `⊥` the
      threshold is `⊤` or at least `n` groups lie at or below it (`select_card`).
   3. `dropStep`: one trip of the drop loop, which takes the largest candidates away while fewer than `k` are gone; what it
      keeps is `DropInv`, and at the end the kept sum corrected by the last value dropped is the sum of the `m` smallest
      (`DropInv.nearSum`). -/
module

public import Mathlib.Data.EReal.Basic
public import Mathlib.Data.EReal.Operations
public import Mathlib.Data.EReal.Inv
public import Mathlib.Data.Finset.Fold
public import Mathlib.Algebra.BigOperators.Ring.Finset
public import Mathlib.Algebra.Order.BigOperators.Group.Finset
public import Mathlib.Tactic.Linarith
public import Mathlib.Tactic.Push
public import Mathlib.Tactic.Ring
public import Mathlib.Tactic.NormNum
public import Mathlib.Tactic.Tauto
public import Mathlib.Algebra.BigOperators.Group.Finset.Basic
public import Mathlib.Algebra.BigOperators.Group.Finset.Piecewise

@[expose] public section

noncomputable section

namespace Cert.RowModel

variable {ι κ : Type} [Fintype ι] [Fintype κ] [DecidableEq ι] [DecidableEq κ]

/-! ## The sum of the smallest -/

/-- A finite sum of reals, taken in the extended reals. -/
theorem coe_sum (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- `v` is the sum of the `m` smallest values of `d`: the sum over `m` indices outside of which nothing is smaller. -/
def IsNearSum (m : ℕ) (d : ι → ℝ) (v : ℝ) : Prop :=
  ∃ S : Finset ι, S.card = m ∧ (∀ i ∈ S, ∀ j, j ∉ S → d i ≤ d j) ∧ v = ∑ i ∈ S, d i

/-- The sum of the `m` smallest does not depend on which indices are taken among equal values. -/
theorem IsNearSum.unique {m : ℕ} {d : ι → ℝ} {v w : ℝ} (hv : IsNearSum m d v) (hw : IsNearSum m d w) : v = w := by
  obtain ⟨S, hS, hlow, rfl⟩ := hv
  obtain ⟨T, hT, hlow', rfl⟩ := hw
  rw [← Finset.sum_inter_add_sum_sdiff S T, ← Finset.sum_inter_add_sum_sdiff T S, Finset.inter_comm T S]
  congr 1
  have hc : (S \ T).card = (T \ S).card := by
    have h1 := Finset.card_sdiff_add_card_inter S T
    have h2 := Finset.card_sdiff_add_card_inter T S
    rw [Finset.inter_comm T S] at h2
    omega
  rcases (S \ T).eq_empty_or_nonempty with he | ⟨a, ha⟩
  · rw [he, Finset.card_empty] at hc
    rw [he, Finset.card_eq_zero.mp hc.symm]
  · have hb : (T \ S).Nonempty := by
      rw [← Finset.card_pos, ← hc, Finset.card_pos]; exact ⟨a, ha⟩
    obtain ⟨b, hb⟩ := hb
    have hab : ∀ i ∈ S \ T, ∀ j ∈ T \ S, d i = d j := by
      intro i hi j hj
      rw [Finset.mem_sdiff] at hi hj
      exact le_antisymm (hlow i hi.1 j hj.2) (hlow' j hj.1 i hi.2)
    rw [Finset.sum_eq_card_nsmul (b := d b) fun i hi => hab i hi b hb,
      Finset.sum_eq_card_nsmul (s := T \ S) (b := d b) fun j hj => ((hab a ha j hj).symm.trans (hab a ha b hb)), hc]

/-! ## The selection rounds -/

/-- One selection round: the least of `g` above `t`, `⊤` where there is none. -/
def nextMin (g : κ → EReal) (t : EReal) : EReal := Finset.univ.fold min ⊤ fun c => if t < g c then g c else ⊤

/-- A round's result is `⊤` or one of the values, above the threshold before. -/
theorem nextMin_spec (g : κ → EReal) (t : EReal) : nextMin g t = ⊤ ∨ ∃ c, nextMin g t = g c ∧ t < g c := by
  by_contra hcon
  push Not at hcon
  obtain ⟨htop, hno⟩ := hcon
  have hlt : nextMin g t < ⊤ := lt_top_iff_ne_top.mpr htop
  have hle : nextMin g t ≤ nextMin g t := le_rfl
  rcases (Finset.fold_min_le (f := fun c => if t < g c then g c else ⊤) (b := (⊤ : EReal)) (s := Finset.univ) (nextMin g t)).mp hle with
    h | ⟨c, -, hc⟩
  · exact absurd (top_le_iff.mp h) htop
  · by_cases htc : t < g c
    · simp only [htc, if_true] at hc
      have h2 : nextMin g t ≤ g c := by
        refine (Finset.fold_min_le _).mpr (Or.inr ⟨c, Finset.mem_univ c, ?_⟩)
        simp only [htc, if_true, le_refl]
      exact absurd htc (not_lt.mpr (hno c (le_antisymm h2 hc)))
    · simp only [htc, if_false] at hc
      exact absurd (top_le_iff.mp hc) htop

/-- After `n` rounds from `⊥` the threshold is `⊤`, or at least `n` values lie at or below it. -/
theorem select_card (g : κ → EReal) (n : ℕ) :
    (nextMin g)^[n] ⊥ = ⊤ ∨ n ≤ (Finset.univ.filter fun c => g c ≤ (nextMin g)^[n] ⊥).card := by
  induction n with
  | zero => exact Or.inr (Nat.zero_le _)
  | succ n ih =>
    rw [Function.iterate_succ_apply']
    generalize (nextMin g)^[n] ⊥ = t at ih ⊢
    rcases nextMin_spec g t with h | ⟨c, hc, htc⟩
    · exact Or.inl h
    · refine Or.inr ?_
      rcases ih with h | h
      · rw [h] at htc; exact absurd htc not_top_lt
      · have hsub : insert c (Finset.univ.filter fun c => g c ≤ t) ⊆ Finset.univ.filter fun c' => g c' ≤ nextMin g t := by
          intro x hx
          rw [Finset.mem_insert, Finset.mem_filter] at hx
          rw [Finset.mem_filter]
          refine ⟨Finset.mem_univ x, ?_⟩
          rcases hx with rfl | hx
          · exact hc.ge
          · exact hx.2.trans (htc.le.trans hc.ge)
        have hnot : c ∉ Finset.univ.filter fun c => g c ≤ t := by
          rw [Finset.mem_filter]; exact fun h => absurd h.2 (not_le.mpr htc)
        have := Finset.card_le_card hsub
        rw [Finset.card_insert_of_notMem hnot] at this
        omega

/-- After a round the threshold is nonnegative when every value is. -/
theorem nextMin_nonneg {g : κ → EReal} (hg : ∀ c, 0 ≤ g c) (t : EReal) : 0 ≤ nextMin g t := by
  rcases nextMin_spec g t with h | ⟨c, hc, -⟩
  · rw [h]; exact le_top
  · rw [hc]; exact hg c

/-- Scaling a nonnegative threshold up by a real factor at least one does not lower it. -/
theorem le_mul_of_one_le {t : EReal} (ht : 0 ≤ t) {a : ℝ} (ha : 1 ≤ a) : t ≤ t * (a : EReal) := by
  induction t with
  | bot => exact absurd ht (by simp)
  | top => rw [EReal.top_mul_coe_of_pos (by linarith)]
  | coe r =>
    rw [← EReal.coe_mul, EReal.coe_le_coe_iff]
    have hr : 0 ≤ r := by exact_mod_cast ht
    nlinarith

/-- The candidates number at least `n`: those at or below a threshold that is not below the selected one, where each of the
    `n` groups has its minimum at an index of its own. -/
theorem candidates_card {d : ι → ℝ} {g : κ → EReal} (J : κ → ι) (hJ : Function.Injective J) (hg : ∀ c, g c = (d (J c) : EReal))
    {n : ℕ} (hn : n ≤ Fintype.card κ) {t : EReal} (ht : (nextMin g)^[n] ⊥ ≤ t) :
    n ≤ (Finset.univ.filter fun j => (d j : EReal) ≤ t).card := by
  have hkey : n ≤ (Finset.univ.filter fun c => g c ≤ t).card := by
    rcases select_card g n with h | h
    · rw [h] at ht
      rw [top_le_iff.mp ht, Finset.filter_true_of_mem fun c _ => le_top]
      exact hn
    · refine h.trans (Finset.card_le_card fun c hc => ?_)
      rw [Finset.mem_filter] at hc ⊢
      exact ⟨hc.1, hc.2.trans ht⟩
  refine hkey.trans ?_
  rw [← Finset.card_image_of_injective _ hJ]
  refine Finset.card_le_card fun j hj => ?_
  obtain ⟨c, hc, rfl⟩ := Finset.mem_image.mp hj
  rw [Finset.mem_filter] at hc ⊢
  exact ⟨Finset.mem_univ _, (hg c) ▸ hc.2⟩

/-! ## The drop loop -/

/-- What one row carries through the drop loop. -/
@[ext] structure DropState (ι : Type) where
  /-- the candidates' distances, `⊥` where an index is no candidate or is dropped -/
  cand : ι → EReal
  /-- how many are dropped -/
  dropped : EReal
  /-- the sum of those kept -/
  sum : EReal
  /-- the value dropped last -/
  last : EReal

/-- The largest candidate. -/
def top (a : DropState ι) : EReal := Finset.univ.fold max ⊥ fun j => a.cand j

/-- How many candidates equal the largest, counted while fewer than `k` are dropped. -/
def hits (k : EReal) (a : DropState ι) : EReal := ∑ j, if a.cand j = top a ∧ a.dropped < k then 1 else 0

/-- One trip: while fewer than `k` are dropped, drop every candidate equal to the largest. -/
def dropStep (k : EReal) (a : DropState ι) : DropState ι where
  cand j := if a.cand j = top a ∧ a.dropped < k then ⊥ else a.cand j
  dropped := a.dropped + hits k a
  sum := a.sum - if a.dropped < k then hits k a * top a else 0
  last := if a.dropped < k then top a else a.last

/-- A trip changes nothing once `k` are dropped. -/
theorem dropStep_of_not {k : EReal} {a : DropState ι} (h : ¬ a.dropped < k) : dropStep k a = a := by
  ext <;> simp [dropStep, hits, h]

/-- What holds through the loop, over the candidates `C` and with `K` to drop, once `q` trips are made: `A` is dropped, all
    of it above what is kept; unless nothing is dropped, the kept ones are those below the last value dropped, and fewer
    than `K` candidates lie above that value. -/
def DropInv (d : ι → ℝ) (C : Finset ι) (K q : ℕ) (a : DropState ι) : Prop :=
  ∃ A ⊆ C, a.cand = (fun j => if j ∈ C \ A then (d j : EReal) else ⊥) ∧ a.dropped = ((A.card : ℝ) : EReal)
    ∧ a.sum = ((∑ j ∈ C \ A, d j : ℝ) : EReal) ∧ min q K ≤ A.card ∧ (∀ i ∈ C \ A, ∀ j ∈ A, d i < d j)
    ∧ ((A = ∅ ∧ a.last = 0) ∨ ∃ L : ℝ, a.last = (L : EReal) ∧ C \ A = C.filter (fun j => d j < L) ∧ (C.filter fun j => L < d j).card < K)

/-- It holds before the first trip. -/
theorem DropInv.start (d : ι → ℝ) (C : Finset ι) (K : ℕ) :
    DropInv d C K 0 ⟨fun j => if j ∈ C then (d j : EReal) else ⊥, 0, ((∑ j ∈ C, d j : ℝ) : EReal), 0⟩ := by
  refine ⟨∅, Finset.empty_subset C, ?_, ?_, ?_, ?_, ?_, Or.inl ⟨rfl, rfl⟩⟩ <;> simp

/-- The largest of a set's values, `⊥` off the set. -/
theorem top_eq {d : ι → ℝ} {B : Finset ι} {a : DropState ι} (ha : a.cand = fun j => if j ∈ B then (d j : EReal) else ⊥)
    (hB : B.Nonempty) : ∃ i ∈ B, top a = (d i : EReal) ∧ ∀ j ∈ B, d j ≤ d i := by
  obtain ⟨i, hi, hmax⟩ := Finset.exists_max_image B d hB
  refine ⟨i, hi, ?_, hmax⟩
  unfold top
  rw [ha]
  refine le_antisymm ((Finset.fold_max_le _).mpr ⟨bot_le, fun j _ => ?_⟩) ((Finset.le_fold_max _).mpr (Or.inr ⟨i, Finset.mem_univ i, ?_⟩))
  · show (if j ∈ B then (d j : EReal) else ⊥) ≤ _
    by_cases hj : j ∈ B
    · rw [if_pos hj]; exact_mod_cast hmax j hj
    · rw [if_neg hj]; exact bot_le
  · show _ ≤ if i ∈ B then (d i : EReal) else ⊥
    rw [if_pos hi]

/-- A trip keeps it, where more are candidates than are to be dropped. -/
theorem DropInv.step {d : ι → ℝ} {C : Finset ι} {K q : ℕ} (hK : K < C.card) {a : DropState ι} (h : DropInv d C K q a) :
    DropInv d C K (q + 1) (dropStep ((K : ℝ) : EReal) a) := by
  obtain ⟨A, hAC, hcand, hdrop, hsum, hq, hup, hlast⟩ := h
  have hiff : a.dropped < ((K : ℝ) : EReal) ↔ A.card < K := by
    rw [hdrop, EReal.coe_lt_coe_iff, Nat.cast_lt]
  by_cases hlt : A.card < K
  · have hne : (C \ A).Nonempty := by
      rw [← Finset.card_pos, Finset.card_sdiff_of_subset hAC]; omega
    obtain ⟨i, hi, htop, hmax⟩ := top_eq hcand hne
    have hiC : i ∈ C := (Finset.mem_sdiff.mp hi).1
    -- those dropped in this trip
    have hB : ∀ j, (a.cand j = top a ∧ a.dropped < ((K : ℝ) : EReal)) ↔ j ∈ (C \ A).filter fun j => d j = d i := by
      intro j
      rw [Finset.mem_filter, htop, hcand, hiff]
      by_cases hj : j ∈ C \ A
      · simp only [hj, if_true, EReal.coe_eq_coe_iff, hlt, and_true, true_and]
      · simp only [hj, if_false, false_and, iff_false, not_and]
        intro hbot; exact absurd hbot (EReal.bot_ne_coe _)
    set B := (C \ A).filter fun j => d j = d i with hBdef
    have hhits : hits ((K : ℝ) : EReal) a = ((B.card : ℝ) : EReal) := by
      unfold hits
      simp only [hB]
      rw [Finset.sum_ite_mem, Finset.univ_inter, Finset.sum_const, nsmul_one]
      rfl
    have hBsub : B ⊆ C \ A := Finset.filter_subset _ _
    have hiB : i ∈ B := Finset.mem_filter.mpr ⟨hi, rfl⟩
    have hdisj : Disjoint A B := Finset.disjoint_left.mpr fun x hx hxB => (Finset.mem_sdiff.mp (hBsub hxB)).2 hx
    have hsd : C \ (A ∪ B) = (C \ A) \ B := by rw [Finset.sdiff_union_distrib]; ext x; simp; tauto
    have hkeep : C \ (A ∪ B) = C.filter fun j => d j < d i := by
      ext j
      rw [hsd, Finset.mem_sdiff (s := C \ A), Finset.mem_filter (s := C)]
      constructor
      · rintro ⟨hj, hjB⟩
        exact ⟨(Finset.mem_sdiff.mp hj).1, lt_of_le_of_ne (hmax j hj) fun he => hjB (Finset.mem_filter.mpr ⟨hj, he⟩)⟩
      · rintro ⟨hjC, hjlt⟩
        have hjA : j ∉ A := fun hjA => absurd (hup i hi j hjA) (not_lt.mpr hjlt.le)
        exact ⟨Finset.mem_sdiff.mpr ⟨hjC, hjA⟩, fun hjB => absurd (Finset.mem_filter.mp hjB).2 hjlt.ne⟩
    refine ⟨A ∪ B, Finset.union_subset hAC (hBsub.trans Finset.sdiff_subset), ?_, ?_, ?_, ?_, ?_, Or.inr ⟨d i, ?_, hkeep, ?_⟩⟩
    · funext j
      simp only [dropStep, hB, hsd]
      by_cases hjB : j ∈ B
      · rw [if_pos hjB, if_neg fun hj => (Finset.mem_sdiff.mp hj).2 hjB]
      · rw [if_neg hjB, hcand]
        by_cases hj : j ∈ C \ A
        · simp only [hj, if_true, if_pos (Finset.mem_sdiff.mpr ⟨hj, hjB⟩)]
        · simp only [hj, if_false, if_neg fun h => hj (Finset.mem_sdiff.mp h).1]
    · simp only [dropStep, hhits, hdrop]
      rw [Finset.card_union_of_disjoint hdisj, ← EReal.coe_add]
      push_cast; rfl
    · simp only [dropStep, if_pos (hiff.mpr hlt), hhits, htop, hsum]
      rw [← EReal.coe_mul, ← EReal.coe_sub, hsd]
      congr 1
      have hs := Finset.sum_sdiff (f := d) hBsub
      have hsB : ∑ j ∈ B, d j = B.card * d i := by
        rw [Finset.sum_eq_card_nsmul fun j hj => (Finset.mem_filter.mp hj).2, nsmul_eq_mul]
      linarith
    · rw [Finset.card_union_of_disjoint hdisj]
      have : 0 < B.card := Finset.card_pos.mpr ⟨i, hiB⟩
      omega
    · intro x hx j hj
      rw [hkeep, Finset.mem_filter] at hx
      rcases Finset.mem_union.mp hj with hj | hj
      · exact hx.2.trans (hup i hi j hj)
      · rw [(Finset.mem_filter.mp hj).2]; exact hx.2
    · simp only [dropStep, if_pos (hiff.mpr hlt), htop]
    · refine lt_of_le_of_lt (Finset.card_le_card fun j hj => ?_) hlt
      rw [Finset.mem_filter] at hj
      by_contra hjA
      exact absurd (hmax j (Finset.mem_sdiff.mpr ⟨hj.1, hjA⟩)) (not_le.mpr hj.2)
  · have hno : ¬ a.dropped < ((K : ℝ) : EReal) := fun h => hlt (hiff.mp h)
    rw [dropStep_of_not hno]
    exact ⟨A, hAC, hcand, hdrop, hsum, by omega, hup, hlast⟩

/-- After any number of trips. -/
theorem DropInv.iterate {d : ι → ℝ} {C : Finset ι} {K : ℕ} (hK : K < C.card) {a : DropState ι} (h : DropInv d C K 0 a) (q : ℕ) :
    DropInv d C K q ((dropStep ((K : ℝ) : EReal))^[q] a) := by
  induction q with
  | zero => exact h
  | succ q ih => rw [Function.iterate_succ_apply']; exact ih.step hK

/-- The kept sum, with the last value dropped put back as often as too many were dropped, is the sum of the `m` smallest. -/
theorem DropInv.nearSum {d : ι → ℝ} {C : Finset ι} {m K q : ℕ} (hm : C.card = m + K) (hKq : K ≤ q)
    (hlow : ∀ i ∈ C, ∀ j, j ∉ C → d i ≤ d j) {a : DropState ι} (h : DropInv d C K q a) :
    ∃ v : ℝ, a.sum + max (a.dropped - ((K : ℝ) : EReal)) 0 * a.last = (v : EReal) ∧ IsNearSum m d v := by
  obtain ⟨A, hAC, -, hdrop, hsum, hq, hup, hlast⟩ := h
  rw [min_eq_right hKq] at hq
  have hcard := Finset.card_sdiff_add_card_eq_card hAC
  have hmax : max (a.dropped - ((K : ℝ) : EReal)) 0 = ((A.card - K : ℝ) : EReal) := by
    rw [hdrop, ← EReal.coe_sub, max_eq_left]
    have : (K : ℝ) ≤ A.card := by exact_mod_cast hq
    exact_mod_cast sub_nonneg.mpr this
  rw [hmax, hsum]
  rcases hlast with ⟨rfl, hl⟩ | ⟨L, hl, hkeep, hfew⟩
  · rw [hl, mul_zero, add_zero, Finset.sdiff_empty]
    rw [Finset.card_empty] at hq
    exact ⟨_, rfl, C, by omega, hlow, rfl⟩
  · refine ⟨_, by rw [hl, ← EReal.coe_mul, ← EReal.coe_add], ?_⟩
    -- the last value dropped stands at enough candidates to fill up to `m`
    have hparts : (C \ A).card + (C.filter fun j => d j = L).card + (C.filter fun j => L < d j).card = C.card := by
      have h1 := Finset.card_filter_add_card_filter_not (s := C) (fun j => d j < L)
      have h2 := Finset.card_filter_add_card_filter_not (s := C.filter fun j => ¬ d j < L) (fun j => d j = L)
      have h3 : (C.filter fun j => ¬ d j < L).filter (fun j => d j = L) = C.filter fun j => d j = L := by
        ext j; simp only [Finset.mem_filter, not_lt]; constructor
        · rintro ⟨⟨h, -⟩, h'⟩; exact ⟨h, h'⟩
        · rintro ⟨h, h'⟩; exact ⟨⟨h, h'.ge⟩, h'⟩
      have h4 : (C.filter fun j => ¬ d j < L).filter (fun j => ¬ d j = L) = C.filter fun j => L < d j := by
        ext j; simp only [Finset.mem_filter, not_lt]; constructor
        · rintro ⟨⟨h, h'⟩, h''⟩; exact ⟨h, lt_of_le_of_ne h' (Ne.symm h'')⟩
        · rintro ⟨h, h'⟩; exact ⟨⟨h, h'.le⟩, h'.ne'⟩
      rw [h3, h4] at h2
      rw [hkeep]; omega
    obtain ⟨E, hEsub, hEcard⟩ := Finset.exists_subset_card_eq (s := C.filter fun j => d j = L) (n := A.card - K) (by omega)
    have hE : ∀ j ∈ E, j ∈ C ∧ d j = L := fun j hj => Finset.mem_filter.mp (hEsub hj)
    have hK' : ∀ j ∈ C \ A, j ∈ C ∧ d j < L := fun j hj => Finset.mem_filter.mp (hkeep ▸ hj)
    have hdisj : Disjoint (C \ A) E := Finset.disjoint_left.mpr fun j hj hjE => absurd (hE j hjE).2 (hK' j hj).2.ne
    refine ⟨(C \ A) ∪ E, ?_, ?_, ?_⟩
    · rw [Finset.card_union_of_disjoint hdisj]; omega
    · intro i hi j hj
      have hi' : i ∈ C ∧ d i ≤ L := by
        rcases Finset.mem_union.mp hi with hi | hi
        · exact ⟨(hK' i hi).1, (hK' i hi).2.le⟩
        · exact ⟨(hE i hi).1, (hE i hi).2.le⟩
      by_cases hjC : j ∈ C
      · refine hi'.2.trans (not_lt.mp fun hjL => hj (Finset.mem_union_left _ ?_))
        rw [hkeep]; exact Finset.mem_filter.mpr ⟨hjC, hjL⟩
      · exact hlow i hi'.1 j hjC
    · rw [Finset.sum_union hdisj, Finset.sum_eq_card_nsmul (s := E) fun j hj => (hE j hj).2, nsmul_eq_mul, hEcard,
        Nat.cast_sub hq]

end Cert.RowModel

end
-- ==== Proof.FloatWords.lean ====
/- The float words that the programs write as literals, read as extended reals. -/
module

public import Idealize.ShloMosaic.PureOps.Ideal
import Mathlib.Tactic.NormNum

@[expose] public section

namespace Cert.FloatWords

open Idealize.ShloMosaic

/-- The narrow pattern of infinity is the greatest extended real. -/
theorem posInf_bf16 : Ideal.ofBits .bf16 0x7F80#16 = ⊤ := by simp [Ideal.ofBits, Ideal.ieee]

/-- The narrow pattern of minus infinity is the least extended real. -/
theorem negInf_bf16 : Ideal.ofBits .bf16 0xFF80#16 = ⊥ := by simp [Ideal.ofBits, Ideal.ieee]

/-- The pattern of infinity is the greatest extended real. -/
theorem posInf_f32 : Ideal.ofBits .f32 0x7F800000#32 = ⊤ := by simp [Ideal.ofBits, Ideal.ieee]

/-- The pattern of minus infinity is the least extended real. -/
theorem negInf_f32 : Ideal.ofBits .f32 0xFF800000#32 = ⊥ := by simp [Ideal.ofBits, Ideal.ieee]

/-- The pattern of two. -/
theorem two_f32 : Ideal.ofBits .f32 0x40000000#32 = ((2 : ℝ) : EReal) := by
  simp [Ideal.ofBits, Ideal.ieee]; rw [← EReal.coe_mul]; norm_num

/-- The pattern of sixteen. -/
theorem sixteen_f32 : Ideal.ofBits .f32 0x41800000#32 = ((16 : ℝ) : EReal) := by
  simp [Ideal.ofBits, Ideal.ieee]; rw [← EReal.coe_mul]; norm_num

/-- The pattern of a sixteenth. -/
theorem sixteenth_f32 : Ideal.ofBits .f32 0x3D800000#32 = ((1 / 16 : ℝ) : EReal) := by
  simp [Ideal.ofBits, Ideal.ieee]; rw [← EReal.coe_mul]; norm_num

/-- The pattern of the threshold's scale. -/
theorem scale_f32 : Ideal.ofBits .f32 0x3F810000#32 = ((129 / 128 : ℝ) : EReal) := by
  simp [Ideal.ofBits, Ideal.ieee]; rw [← EReal.coe_mul]; norm_num

end Cert.FloatWords
-- ==== Proof.DtmRows.lean ====
/- What the first region's payloads hold at one row, over the ideal floats: the selection rounds, the candidates, one trip of
   the drop loop and its number of trips, in the words of the row's mathematics. -/
module

public import proofs.«01_k».proof.Proof.DtmBlock
public import proofs.«01_k».proof.Proof.RowModel
public import proofs.«01_k».proof.Proof.FloatWords
public import Idealize.ShloMosaic.Lib.Pointwise.Tactic
public import Idealize.ShloMosaic.Lib.Affine

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.RowModel (nextMin DropState dropStep)
open Cert.FloatWords

/-! ## Truth bits -/

/-- A truth bit converted to a float is one or zero. -/
theorem bit_f32 (p : Prop) [Decidable p] :
    FloatOps.sitofp (F := Ideal) .f32 (BitVec.setWidth 32 (BitVec.ofBool (decide p))) = if p then (1 : EReal) else 0 := by
  by_cases h : p <;> simp [h, FloatOps.sitofp] <;> rfl
/-- The conjunction of two truth bits is the conjunction's. -/
theorem andi_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
/-- A selection by a truth bit is the `if` of its proposition. -/
theorem select_bit {α : Type} (p : Prop) [Decidable p] (a b : α) :
    Scalar.select (BitVec.ofBool (decide p)) a b = if p then a else b := by
  by_cases hp : p <;> simp [hp, Scalar.select]

/-! ## The selection and the candidates -/

section
variable (x0 : Vec Ideal S256x3 .f32) (x1 : Vec Ideal S3x4096 .f32) (r : Fin 256)

/-- The distances of row `r`. -/
def dist (j : Fin 4096) : EReal := k0_pay23 x0 x1 (ix2 r j)
/-- The group minima of row `r`: group `c` is the columns that are `c` modulo 512. -/
def groupMin (c : Fin 512) : EReal := k0_pay24 x0 x1 (ix2 r c)
/-- The threshold: the sixteenth selected value, scaled up by `1 + 1/128`. -/
def threshold : EReal := (nextMin (groupMin x0 x1 r))^[16] ⊥ * ((129 / 128 : ℝ) : EReal)

/-- A distance as an expression of the two blocks: the squares less twice the product, and at least zero. -/
theorem dist_eq (j : Fin 4096) : dist x0 x1 r j
    = max (∑ k : Fin 3, x0 (ix2 r k) * x0 (ix2 r k) + ∑ k : Fin 3, x1 (ix2 k j) * x1 (ix2 k j)
        - Ideal.ofBits .f32 0x40000000#32 * ∑ k : Fin 3, x0 (ix2 r k) * x1 (ix2 k j)) 0 := by
  unfold dist
  pointwise [k0_pay23]

/-- A distance is not negative. -/
theorem dist_nonneg (j : Fin 4096) : 0 ≤ dist x0 x1 r j := by
  rw [dist_eq]; exact le_max_right _ _

/-- A group's minimum is the distance at one of the group's columns. -/
theorem groupMin_mem (c : Fin 512) : ∃ j : Fin 4096, j.val % 512 = c.val ∧ groupMin x0 x1 r c = dist x0 x1 r j := by
  have hmin : ∀ a b : EReal, (∃ j : Fin 4096, j.val % 512 = c.val ∧ a = dist x0 x1 r j) →
      (∃ j : Fin 4096, j.val % 512 = c.val ∧ b = dist x0 x1 r j) → ∃ j : Fin 4096, j.val % 512 = c.val ∧ min a b = dist x0 x1 r j := by
    intro a b ha hb
    rcases min_choice a b with h | h <;> rw [h] <;> assumption
  suffices h : ∀ z : EReal, groupMin x0 x1 r c = z → ∃ j : Fin 4096, j.val % 512 = c.val ∧ z = dist x0 x1 r j from h _ rfl
  intro z hz
  revert hz
  unfold groupMin
  pointwise [k0_pay24]
  rintro rfl
  refine hmin _ _ (hmin _ _ (hmin _ _ ?_ ?_) (hmin _ _ ?_ ?_)) (hmin _ _ (hmin _ _ ?_ ?_) (hmin _ _ ?_ ?_)) <;>
    exact ⟨_, by first | omega | (simp <;> omega), rfl⟩

/-- After ten rounds of the selection a row holds the tenth distinct group minimum. -/
theorem thrTen_row : thrTen x0 x1 (ix2 r 0) = (nextMin (groupMin x0 x1 r))^[10] ⊥ := by
  pointwise [thrTen, k0_pay27, k0_pay26, k0_pay25]
  simp only [posInf_bf16, negInf_bf16]
  rfl

/-- The candidates of a row are the columns whose distance is at most the threshold. -/
theorem candMask_row (j : Fin 4096) :
    candMask x0 x1 (ix2 r j) = BitVec.ofBool (decide (dist x0 x1 r j ≤ threshold x0 x1 r)) := by
  rw [threshold, Function.iterate_add_apply _ 6 10, ← thrTen_row]
  pointwise [candMask, k0_pay28]
  simp only [posInf_bf16, scale_f32]
  rfl

/-- The count of a row is the number of its candidates. -/
theorem candCount_row :
    candCount x0 x1 (ix2 r 0) = ∑ j : Fin 4096, if dist x0 x1 r j ≤ threshold x0 x1 r then (1 : EReal) else 0 := by
  have h : candCount x0 x1 (ix2 r 0) = ∑ j : Fin 4096, FloatOps.sitofp (F := Ideal) .f32 (BitVec.setWidth 32 (candMask x0 x1 (ix2 r j))) := by
    pointwise [candCount, k0_pay29]
    rfl
  rw [h]
  exact Finset.sum_congr rfl fun j _ => by rw [candMask_row, bit_f32]

end

/-! ## The drop loop -/

/-- What row `r` carries. -/
def rowOf (r : Fin 256) (a : Carried Ideal) : DropState (Fin 4096) :=
  ⟨fun j => a.1 (ix2 r j), a.2.1 (ix2 r 0), a.2.2.1 (ix2 r 0), a.2.2.2 (ix2 r 0)⟩

/-- The row's start: the candidates, nothing dropped. -/
theorem rowOf_start (x0 : Vec Ideal S256x3 .f32) (x1 : Vec Ideal S3x4096 .f32) (r : Fin 256) :
    rowOf r (dropStart x0 x1)
      = ⟨fun j => if dist x0 x1 r j ≤ threshold x0 x1 r then dist x0 x1 r j else ⊥, 0,
          ∑ j : Fin 4096, if dist x0 x1 r j ≤ threshold x0 x1 r then dist x0 x1 r j else 0, 0⟩ := by
  have hm := candMask_row x0 x1 r
  ext
  · rename_i j
    show k0_pay3 (k0_pay23 x0 x1) (candMask x0 x1) (ix2 r j) = _
    generalize candMask x0 x1 = M at hm
    pointwise [k0_pay3]
    rw [hm, select_bit, negInf_f32]; rfl
  · show k0_pay4 (F := Ideal) (ix2 r 0) = 0
    pointwise [k0_pay4]
  · show k0_pay1 (k0_pay23 x0 x1) (candMask x0 x1) (Scalar.ofBits .f32 0x00000000#32) (ix2 r 0) = _
    generalize candMask x0 x1 = M at hm
    pointwise [k0_pay1]
    refine Finset.sum_congr rfl fun j _ => ?_
    rw [hm, select_bit]; rfl
  · show k0_pay4 (F := Ideal) (ix2 r 0) = 0
    pointwise [k0_pay4]

/-- One trip at a row. -/
theorem rowOf_trip (n : FVec Ideal S256x1 .f32) (a : Carried Ideal) (r : Fin 256) :
    rowOf r (dropTrip n a) = dropStep (n (ix2 r 0) - ((16 : ℝ) : EReal)) (rowOf r a) := by
  ext
  · rename_i j
    show (dropTrip n a).1 (ix2 r j) = _
    pointwise [dropTrip, k0_pay10, k0_pay8, k0_pay7, k0_pay6, k0_pay2]
    simp only [andi_bits, select_bit, negInf_f32, sixteen_f32]
    rfl
  · show (dropTrip n a).2.1 (ix2 r 0) = _
    pointwise [dropTrip, k0_pay11, k0_pay9, k0_pay8, k0_pay7, k0_pay6, k0_pay2]
    simp only [andi_bits, bit_f32, negInf_f32, sixteen_f32]
    rfl
  · show (dropTrip n a).2.2.1 (ix2 r 0) = _
    pointwise [dropTrip, k0_pay12, k0_pay9, k0_pay8, k0_pay7, k0_pay6, k0_pay2]
    simp only [andi_bits, bit_f32, negInf_f32, sixteen_f32]
    rfl
  · show (dropTrip n a).2.2.2 (ix2 r 0) = _
    pointwise [dropTrip, k0_pay13, k0_pay7, k0_pay6, k0_pay2]
    simp only [select_bit, negInf_f32, sixteen_f32]
    rfl

/-- Any number of trips at a row. -/
theorem rowOf_iterate (n : FVec Ideal S256x1 .f32) (r : Fin 256) (q : ℕ) (a : Carried Ideal) :
    rowOf r ((dropTrip n)^[q] a) = (dropStep (n (ix2 r 0) - ((16 : ℝ) : EReal)))^[q] (rowOf r a) := by
  induction q generalizing a with
  | zero => rfl
  | succ q ih => rw [Function.iterate_succ_apply, Function.iterate_succ_apply, ih, rowOf_trip]

/-! ## The number of trips -/

/-- The loop runs as often as its bound's value says. -/
theorem loop_trips (w : BitVec 32) : (k0_t1_loop w).trips = w.toInt.toNat := by
  have r_v147 : -2 ^ 31 ≤ w.toInt ∧ w.toInt < 2 ^ 31 := Affine.word_range w
  have h0 : Affine.IsInt 0#32 (0) := Affine.ofNat _ (by omega)
  have h1 : Affine.IsInt 1#32 (1) := Affine.ofNat _ (by omega)
  have h_v148 : Affine.IsInt _ (w.toInt) := Affine.subi (Affine.word w) h0 (by omega)
  have h_v150 : Affine.IsInt _ (w.toInt) := Affine.divsi_one h_v148 h1 (by omega)
  have h_v151 : Affine.IsInt _ (w.toInt) := Affine.muli h_v150 h1 (by omega)
  have h_v152 : Affine.IsInt _ (w.toInt) := Affine.addi h0 h_v151 (by omega)
  by_cases hw : 0 ≤ w.toInt
  · exact Affine.trips_eq h0 h_v152 h1 _ ⟨by omega, by omega⟩
  · have h : (k0_t1_loop w).trips ≤ 0 := Affine.trips_le h0 h_v152 h1 0 ⟨by omega, by omega⟩
    omega

/-- A bound at least `K` gives at least `K` trips. -/
theorem trips_ge {K : ℕ} (hK : K ≤ 4096) {x : EReal} (hx : ((K : ℝ) : EReal) ≤ x) :
    K ≤ (k0_t1_loop (Scalar.fptosi (F := Ideal) (φ := .f32) 32 x)).trips := by
  rw [loop_trips]
  have hr : ∀ z : ℤ, (K : ℤ) ≤ z → z ≤ 2147483647 → K ≤ ((BitVec.ofInt 32 z).toInt).toNat := by
    intro z h0 h1
    rw [BitVec.toInt_ofInt, Int.bmod_eq_of_le (by omega) (by omega)]
    omega
  show K ≤ ((BitVec.ofInt 32 (Ideal.toIntClamped (-(2 ^ (32 - 1) : Nat)) ((2 ^ (32 - 1) : Nat) - 1) x)).toInt).toNat
  induction x with
  | bot => exact absurd (le_bot_iff.mp hx) (EReal.coe_ne_bot _)
  | top => rw [Ideal.toIntClamped_top]; exact hr _ (by norm_num; omega) (by norm_num)
  | coe y =>
    have hy : (K : ℝ) ≤ y := by exact_mod_cast hx
    have h0 : (0 : ℝ) ≤ y := (Nat.cast_nonneg K).trans hy
    have hf : (K : ℤ) ≤ ⌊y⌋ := Int.le_floor.mpr (by exact_mod_cast hy)
    rw [Ideal.toIntClamped_coe, if_pos h0]
    refine hr _ (le_max_of_le_right (le_min (by norm_num; omega) hf)) (max_le (by norm_num) ((min_le_left _ _).trans (by norm_num)))

/-- The bound is at least every row's number to drop. -/
theorem bound_ge (n : FVec Ideal S256x1 .f32) (r : Fin 256) : n (ix2 r 0) - ((16 : ℝ) : EReal) ≤ k0_pay5 n := by
  suffices h : ∀ z : EReal, k0_pay5 n = z → n (ix2 r 0) - ((16 : ℝ) : EReal) ≤ z from h _ rfl
  intro z hz
  revert hz
  pointwise [k0_pay5, k0_pay2]
  rintro rfl
  rw [sixteen_f32]
  exact (Finset.le_fold_max _).mpr (Or.inr ⟨(r, 0), Finset.mem_univ _, le_rfl⟩)

/-! ## The column -/

/-- The stored value, from the count and what the loop ends with. -/
theorem finish_row (n b s l : FVec Ideal S256x1 .f32) (r : Fin 256) :
    k0_pay22 n b s l (ix2 r 0)
      = Ideal.sqrt ((s (ix2 r 0) + max (b (ix2 r 0) - (n (ix2 r 0) - ((16 : ℝ) : EReal))) 0 * l (ix2 r 0)) * ((1 / 16 : ℝ) : EReal)) := by
  pointwise [k0_pay22, k0_pay2]
  simp only [sixteen_f32, sixteenth_f32]

end Cert.KernelIdeal.Hand

end
-- ==== Proof.DtmValue.lean ====
/- What the first region stores for one point: the root of a sixteenth of the sum of the sixteen smallest distances of its
   row, where the row's distances are real. -/
module

public import proofs.«01_k».proof.Proof.DtmRows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.RowModel

/-- The loop makes at least as many trips as a row has to drop. -/
theorem dropTrips_ge {K : ℕ} (hK : K ≤ 4096) (n : FVec Ideal S256x1 .f32) (r : Fin 256)
    (hn : n (ix2 r 0) - ((16 : ℝ) : EReal) = ((K : ℝ) : EReal)) : K ≤ dropTrips n := by
  rw [dropTrips]
  exact trips_ge hK (hn ▸ bound_ge n r)

/-! What a row carries, read off the carried columns. -/

theorem rowOf_dropped (r : Fin 256) (a : Carried Ideal) : (rowOf r a).dropped = a.2.1 (ix2 r 0) := rfl
theorem rowOf_sum (r : Fin 256) (a : Carried Ideal) : (rowOf r a).sum = a.2.2.1 (ix2 r 0) := rfl
theorem rowOf_last (r : Fin 256) (a : Carried Ideal) : (rowOf r a).last = a.2.2.2 (ix2 r 0) := rfl

/-- What the row carries at the end. -/
theorem rowOf_end (x0 : Vec Ideal S256x3 .f32) (x1 : Vec Ideal S3x4096 .f32) (r : Fin 256) :
    rowOf r (dropEnd x0 x1)
      = (dropStep (candCount x0 x1 (ix2 r 0) - ((16 : ℝ) : EReal)))^[dropTrips (candCount x0 x1)] (rowOf r (dropStart x0 x1)) := by
  rw [dropEnd]
  exact rowOf_iterate _ _ _ _

/-- The stored value, from the count and what the row carries at the end. -/
theorem dtmCol_row (x0 : Vec Ideal S256x3 .f32) (x1 : Vec Ideal S3x4096 .f32) (r : Fin 256) :
    dtmCol x0 x1 (ix2 r 0)
      = Ideal.sqrt (((rowOf r (dropEnd x0 x1)).sum + max ((rowOf r (dropEnd x0 x1)).dropped
          - (candCount x0 x1 (ix2 r 0) - ((16 : ℝ) : EReal))) 0 * (rowOf r (dropEnd x0 x1)).last) * ((1 / 16 : ℝ) : EReal)) := by
  rw [rowOf_sum, rowOf_dropped, rowOf_last, dtmCol, finish_row]

/-- At least sixteen columns are candidates. -/
theorem candidates_row (x0 : Vec Ideal S256x3 .f32) (x1 : Vec Ideal S3x4096 .f32) (r : Fin 256) {D : Fin 4096 → ℝ}
    (hD : ∀ j, dist x0 x1 r j = (D j : EReal)) : 16 ≤ (Finset.univ.filter fun j => (D j : EReal) ≤ threshold x0 x1 r).card := by
  choose J hJmod hJ using groupMin_mem x0 x1 r
  have hinj : Function.Injective J := fun a b h => Fin.ext (by rw [← hJmod a, ← hJmod b, h])
  have hg0 : ∀ c, 0 ≤ groupMin x0 x1 r c := fun c => (hJ c).symm ▸ dist_nonneg x0 x1 r (J c)
  refine candidates_card J hinj (fun c => (hJ c).trans (hD (J c))) (by simp) (le_mul_of_one_le ?_ (by norm_num))
  rw [Function.iterate_succ_apply']
  exact nextMin_nonneg hg0 _

/-- The stored value is the root of a sixteenth of the sum of the row's sixteen smallest distances. -/
theorem dtmCol_near (x0 : Vec Ideal S256x3 .f32) (x1 : Vec Ideal S3x4096 .f32) (r : Fin 256) {D : Fin 4096 → ℝ}
    (hD : ∀ j, dist x0 x1 r j = (D j : EReal)) :
    ∃ v : ℝ, dtmCol x0 x1 (ix2 r 0) = Ideal.sqrt ((v : EReal) * ((1 / 16 : ℝ) : EReal)) ∧ IsNearSum 16 D v := by
  have h16 := candidates_row x0 x1 r hD
  obtain ⟨C, hC⟩ : ∃ C : Finset (Fin 4096), C = Finset.univ.filter fun j => (D j : EReal) ≤ threshold x0 x1 r := ⟨_, rfl⟩
  rw [← hC] at h16
  have hmem : ∀ j, (D j : EReal) ≤ threshold x0 x1 r ↔ j ∈ C := fun j => by rw [hC, Finset.mem_filter]; simp
  have hcard : C.card ≤ 4096 := (Finset.card_le_univ C).trans (by simp)
  obtain ⟨K, hK⟩ : ∃ K, C.card = 16 + K := ⟨C.card - 16, by omega⟩
  have hcount : candCount x0 x1 (ix2 r 0) - ((16 : ℝ) : EReal) = ((K : ℝ) : EReal) := by
    rw [candCount_row]
    simp only [hD, hmem]
    rw [Finset.sum_ite_mem, Finset.univ_inter, Finset.sum_const, nsmul_one, hK]
    show (((16 + K : ℕ) : ℝ) : EReal) - _ = _
    rw [← EReal.coe_sub, Nat.cast_add, Nat.cast_ofNat, add_sub_cancel_left]
  have hstart : DropInv D C K 0 (rowOf r (dropStart x0 x1)) := by
    rw [rowOf_start]
    simp only [hD, hmem]
    rw [Finset.sum_ite_mem, Finset.univ_inter, ← coe_sum]
    exact DropInv.start D C K
  have hend : DropInv D C K (dropTrips (candCount x0 x1)) (rowOf r (dropEnd x0 x1)) := by
    rw [rowOf_end, hcount]
    exact hstart.iterate (by omega) _
  obtain ⟨v, hv, hnear⟩ := hend.nearSum hK (dropTrips_ge (by omega) _ r hcount) fun i hi j hj => by
    rw [← hmem] at hi hj
    exact_mod_cast hi.trans (not_le.mp hj).le
  exact ⟨v, by rw [dtmCol_row, hcount, hv], hnear⟩

end Cert.KernelIdeal.Hand

end
-- ==== Proof.RefRows.lean ====
/- What the reference computes, over the ideal floats: the squared distances as an expression of the points, the sixteen
   nearest as a sum of sixteen smallest, the edge value of a pair. -/
module

public import proofs.«01_k».proof.Proof.Gen.ReferenceIdeal.Read
public import proofs.«01_k».proof.Proof.RowModel
public import proofs.«01_k».proof.Proof.FloatWords
public import Idealize.ShloMosaic.Lib.Pointwise.Tactic
public import Idealize.ShloMosaic.Lib.SortFacts

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.RowModel Cert.FloatWords

/-! ## The sixteen greatest of a row -/

/-- "Sorts before", along row `i`. -/
def before (y : FVec Ideal S4096x4096 .f32) (i : Fin 4096) (a b : Fin 4096) : Bool :=
  FloatOps.cmpfTotal .gt (y (ix2 i a)) (y (ix2 i b)) == 1#1

/-- A column sorts before another when its entry is greater. -/
theorem before_iff (y : FVec Ideal S4096x4096 .f32) (i a b : Fin 4096) : before y i a b = true ↔ y (ix2 i b) < y (ix2 i a) := by
  unfold before
  rw [beq_iff_eq]
  show Ideal.cmp (CmpDirection.ordered .gt) (y (ix2 i a)) (y (ix2 i b)) = 1#1 ↔ _
  by_cases h : y (ix2 i b) < y (ix2 i a) <;> simp [Ideal.cmp, CmpDirection.ordered, h]

/-- The column the `k`-th greatest of row `i` comes from. -/
def source (y : FVec Ideal S4096x4096 .f32) (i : Fin 4096) (k : Fin 16) : Fin 4096 :=
  sortedFrom (before y i) (k.castLE (by decide))

/-- The `k`-th of the sixteen greatest is the entry at its source column. -/
theorem topK_source (y : FVec Ideal S4096x4096 .f32) (i : Fin 4096) (k : Fin 16) :
    (Host.topK S4096x16 1 (FloatOps.cmpfTotal .gt) y sliceFits_S4096x4096_S4096x16).1 (ix2 i k) = y (ix2 i (source y i k)) := by
  have hal : ∀ c : Fin 4096, Shape.Idx.along (s := S4096x4096) (ix2 i (k.castLE (by decide) : Fin 4096)) 1 c = ix2 i c := by
    intro c
    funext a
    fin_cases a
    · rfl
    · rfl
  have hidx : (Host.topK S4096x16 1 (FloatOps.cmpfTotal .gt) y sliceFits_S4096x4096_S4096x16).1 (ix2 i k)
      = (Host.sort2 S4096x4096 1 (fun l r => FloatOps.cmpfTotal .gt l.1 r.1) y
          (fun j => if hd : 1 < S4096x4096.rank then iotaInDim S4096x4096 32 ⟨1, hd⟩ j else 0#32)).1 (ix2 i (k.castLE (by decide))) := by
    unfold Host.topK
    dsimp only
    generalize (Host.sort2 S4096x4096 1 (fun l r => FloatOps.cmpfTotal .gt l.1 r.1) y
          (fun j => if hd : 1 < S4096x4096.rank then iotaInDim S4096x4096 32 ⟨1, hd⟩ j else 0#32)) = z
    refine congrArg z.1 (funext fun a => ?_)
    fin_cases a
    · exact Fin.ext (Nat.zero_add _)
    · exact Fin.ext (Nat.zero_add _)
  rw [hidx]
  unfold Host.sort2
  rw [dif_pos (by decide)]
  show y (Shape.Idx.along (s := S4096x4096) (ix2 i (k.castLE (by decide) : Fin 4096)) 1
    (sortedFrom (fun a b => FloatOps.cmpfTotal .gt
      (y (Shape.Idx.along (s := S4096x4096) (ix2 i (k.castLE (by decide) : Fin 4096)) 1 a))
      (y (Shape.Idx.along (s := S4096x4096) (ix2 i (k.castLE (by decide) : Fin 4096)) 1 b)) == 1#1) (k.castLE (by decide)))) = _
  refine congrArg y ((hal _).trans (congrArg (ix2 i) ?_))
  unfold source
  refine congrFun (congrArg (sortedFrom (n := 4096)) (funext fun a => funext fun b => ?_)) _
  exact congrArg₂ (fun u v : EReal => FloatOps.cmpfTotal (F := Ideal) (φ := .f32) .gt u v == 1#1) (congrArg y (hal a)) (congrArg y (hal b))

theorem source_injective (y : FVec Ideal S4096x4096 .f32) (i : Fin 4096) : Function.Injective (source y i) :=
  fun _ _ h => Fin.castLE_injective _ (sortedFrom_injective _ h)

/-- No column left out holds more than one taken. -/
theorem source_greatest (y : FVec Ideal S4096x4096 .f32) (i : Fin 4096) (k : Fin 16) (j : Fin 4096) (hj : ∀ l, source y i l ≠ j) :
    y (ix2 i j) ≤ y (ix2 i (source y i k)) := by
  obtain ⟨l, hl⟩ := sortedFrom_surjective (before y i) j
  have hlt : (k.castLE (by decide) : Fin 4096) < l := by
    by_contra hge
    have h16 : l.val < 16 := lt_of_le_of_lt (not_lt.mp hge) k.isLt
    exact hj ⟨l.val, h16⟩ hl
  have h := sortedFrom_noInversion (before y i) (before y i) (fun a b h => ?_) (fun a b h => h) (fun a b c h1 h2 => ?_) _ _ hlt
  · rw [hl, Bool.eq_false_iff, Ne, before_iff] at h
    exact not_lt.mp h
  · rw [Bool.eq_false_iff, Ne, before_iff]
    exact not_lt.mpr ((before_iff y i a b).mp h).le
  · rw [Bool.eq_false_iff, Ne, before_iff] at h1 h2 ⊢
    exact not_lt.mpr ((not_lt.mp h1).trans (not_lt.mp h2))

/-! ## The reference at a row -/

/-- The squared length of a point. -/
theorem square_ref (x : FVec Ideal S4096x3 .f32) (i : Fin 4096) :
    val_main_v1 (F := Ideal) x (ix1 i) = ∑ k : Fin 3, x (ix2 i k) * x (ix2 i k) := by
  rw [val_main_v1_apply, val_main_cst_apply]
  show Ideal.ofBits .f32 0x00000000#32 + _ = _
  rw [Ideal.ofBits_zero_f32, zero_add]
  exact Finset.sum_congr rfl fun k _ => by
    rw [show idx_main_v1 (ix1 i) k = ix2 i k from funext fun a => by fin_cases a <;> rfl, val_main_v0_apply]; rfl

/-- The product of two points. -/
theorem product_ref (x : FVec Ideal S4096x3 .f32) (i j : Fin 4096) :
    val_main_v8 (F := Ideal) x (ix2 i j) = ∑ k : Fin 3, x (ix2 i k) * x (ix2 j k) := by
  rw [val_main_v8_apply]
  refine Finset.sum_congr rfl fun k _ => ?_
  rw [val_main_v7_apply]
  rw [show lidx_main_v8 (ix2 i j) k = ix2 i k from funext fun a => by fin_cases a <;> rfl,
    show idx_main_v7 (ridx_main_v8 (ix2 i j) k) = ix2 j k from funext fun a => by fin_cases a <;> rfl]

/-- The squared distance of two points. -/
theorem dist_ref (x : FVec Ideal S4096x3 .f32) (i j : Fin 4096) : val_main_v13 (F := Ideal) x (ix2 i j)
    = max (∑ k : Fin 3, x (ix2 i k) * x (ix2 i k) + ∑ k : Fin 3, x (ix2 j k) * x (ix2 j k)
        - Ideal.ofBits .f32 0x40000000#32 * ∑ k : Fin 3, x (ix2 i k) * x (ix2 j k)) 0 := by
  rw [← square_ref, ← square_ref, ← product_ref]
  pointwise [val_main_v13, val_main_v12, val_main_v11, val_main_v10, val_main_v9, val_main_v6, val_main_v5,
    val_main_v4, val_main_v3, val_main_v2, val_main_cst_0, val_main_cst_1]

/-- The distance to measure at a point is the root of a sixteenth of the sum of its row's sixteen smallest. -/
theorem dtm_ref (x : FVec Ideal S4096x3 .f32) (i : Fin 4096) {D : Fin 4096 → ℝ}
    (hD : ∀ j, val_main_v13 (F := Ideal) x (ix2 i j) = (D j : EReal)) :
    ∃ v : ℝ, val_main_v19 (F := Ideal) x (ix1 i) = Ideal.sqrt ((v : EReal) * ((1 / 16 : ℝ) : EReal)) ∧ IsNearSum 16 D v := by
  have hy : ∀ j, val_main_v14 (F := Ideal) x (ix2 i j) = ((-D j : ℝ) : EReal) := fun j => by
    rw [val_main_v14_apply, hD, EReal.coe_neg]; rfl
  have hsum : val_main_v16 (F := Ideal) x (ix1 i) = ((∑ k : Fin 16, D (source (val_main_v14 (F := Ideal) x) i k) : ℝ) : EReal) := by
    rw [val_main_v16_apply, val_main_cst_2_apply]
    show Ideal.ofBits .f32 0x00000000#32 + _ = _
    rw [Ideal.ofBits_zero_f32, zero_add, coe_sum]
    refine Finset.sum_congr rfl fun k _ => ?_
    rw [show idx_main_v16 (ix1 i) k = ix2 i k from funext fun a => by fin_cases a <;> rfl, val_main_v15_apply, val_main_values,
      topK_source, hy, EReal.coe_neg]
    exact neg_neg _
  refine ⟨∑ k : Fin 16, D (source (val_main_v14 (F := Ideal) x) i k), ?_,
    Finset.univ.image (source (val_main_v14 (F := Ideal) x) i), ?_, ?_, ?_⟩
  · rw [← hsum, val_main_v19_apply, val_main_v18_apply, val_main_v17_apply, val_main_cst_3_apply]
    show Ideal.sqrt (Ideal.div _ (Ideal.ofBits .f32 0x41800000#32)) = _
    rw [sixteen_f32, Ideal.div_coe (by norm_num)]
  · rw [Finset.card_image_of_injective _ (source_injective _ _)]; simp
  · intro a ha j hj
    obtain ⟨k, -, rfl⟩ := Finset.mem_image.mp ha
    have h := source_greatest (val_main_v14 (F := Ideal) x) i k j fun l hl => hj (Finset.mem_image.mpr ⟨l, Finset.mem_univ l, hl⟩)
    rw [hy, hy, EReal.coe_le_coe_iff] at h
    linarith
  · rw [Finset.sum_image fun a _ b _ h => source_injective _ _ h]

/-- The value of an edge from the two ends' values and the squared distance between them. -/
def edge (a b d : EReal) : EReal :=
  min (Scalar.select (FloatOps.cmpf (F := Ideal) (φ := .f32) .ole (Ideal.sqrt (max d (Ideal.ofBits .f32 0x2B8CBCCC#32)))
        (FloatOps.absf (F := Ideal) (φ := .f32) (a - b)))
      (max a b) ((a + b + Ideal.sqrt (max d (Ideal.ofBits .f32 0x2B8CBCCC#32))) * Ideal.ofBits .f32 0x3F000000#32))
    (Ideal.ofBits .f32 0x40000000#32)

/-- The reference's result at a pair is the edge value of the two distances to measure and the squared distance. -/
theorem edge_ref (x : FVec Ideal S4096x3 .f32) (i j : Fin 4096) : val_main_v41 (F := Ideal) x (ix2 i j)
    = edge (val_main_v19 (F := Ideal) x (ix1 i)) (val_main_v19 (F := Ideal) x (ix1 j)) (val_main_v13 (F := Ideal) x (ix2 i j)) := by
  unfold edge
  pointwise [val_main_v41, val_main_v40, val_main_v39, val_main_v38, val_main_v37, val_main_v36, val_main_v35, val_main_v34, val_main_v33,
   val_main_v32, val_main_v31, val_main_v30, val_main_v29, val_main_v28, val_main_v27, val_main_v26, val_main_v25, val_main_v24, val_main_v23,
   val_main_v22, val_main_v21, val_main_v20, val_main_cst_4, val_main_cst_5, val_main_cst_6]

end Cert.ReferenceIdeal.Hand

end
-- ==== Proof.Arrays.lean ====
/- What the arrays hold after the two regions, where the points' squared distances are real: the first region's output is the
   reference's distance to measure of each point, the second region's is the reference's edge value of each pair. -/
module

public import proofs.«01_k».proof.Proof.KernelRun
public import proofs.«01_k».proof.Proof.DtmValue
public import proofs.«01_k».proof.Proof.RefRows
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.RowModel
open Cert.ReferenceIdeal.Hand (edge edge_ref dist_ref dtm_ref)
open Cert.ReferenceIdeal.Read (val_main_v13 val_main_v19 val_main_v41)

variable (V : (c : Dev nD) → (b : Ref sig .tc) → Buf (Elt Ideal) ((c : Thread nD τ).loc b)) (c : Dev nD)

/-! ## The blocks of a grid point -/

/-- The first region's block indices: the rows' blocks follow the grid, the columns are one block. -/
theorem index0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The second region's block indices: the rows' blocks follow the grid, the columns are one block. -/
theorem index1 : ∀ t : Fin cfg1.N, win1_0.index t = ![t.val, 0] ∧ win1_1.index t = ![0, 0] ∧ win1_2.index t = ![t.val, 0]
    ∧ win1_3.index t = ![0, 0] ∧ win1_4.index t = ![t.val, 0] :=
  (by decide +kernel : ∀ t : Fin grid1.N, win1_0.index t = ![t.val, 0] ∧ win1_1.index t = ![0, 0] ∧ win1_2.index t = ![t.val, 0]
    ∧ win1_3.index t = ![0, 0] ∧ win1_4.index t = ![t.val, 0])

/-- Row `r` of grid point `t`'s block, as a row of the array. -/
def row (t : Fin 16) (r : Fin 256) : Fin 4096 := ⟨t.val * 256 + r.val, by omega⟩

/-- The first region's rows are the points of the block. -/
theorem points0 (t : Fin cfg0.N) (r : Fin 256) (k : Fin 3) :
    iblk0 V c 0 t (ix2 r k) = V c main_arg0 (ix2 (row t r) k) := by
  blk_ext [iblk0, index0 t, row]

/-- The first region's columns are the whole transposed array. -/
theorem columns0 (t : Fin cfg0.N) (k : Fin 3) (j : Fin 4096) :
    iblk0 V c 1 t (ix2 k j) = V c main_call0_v0 (ix2 k j) := by
  blk_ext [iblk0, index0 t]

/-- The second region's rows are the points of the block. -/
theorem points1 (t : Fin cfg1.N) (r : Fin 256) (k : Fin 3) :
    iblk1 V c 0 t (ix2 r k) = V c main_arg0 (ix2 (row t r) k) := by
  blk_ext [iblk1, index1 t, row]

/-- The second region's columns are the whole transposed array. -/
theorem columns1 (t : Fin cfg1.N) (k : Fin 3) (j : Fin 4096) :
    iblk1 V c 1 t (ix2 k j) = V c main_call0_v0 (ix2 k j) := by
  blk_ext [iblk1, index1 t]

/-- The second region's column block holds the block's rows of the distances to measure. -/
theorem dtmCol1 (t : Fin cfg1.N) (r : Fin 256) :
    iblk1 V c 2 t (ix2 r 0) = V c main_call0_v1 (ix2 (row t r) 0) := by
  blk_ext [iblk1, index1 t, row]

/-- The second region's row block is the whole row of distances to measure. -/
theorem dtmRow1 (t : Fin cfg1.N) (j : Fin 4096) :
    iblk1 V c 3 t (ix2 0 j) = V c main_call0_v2 (ix2 0 j) := by
  blk_ext [iblk1, index1 t]

/-- Row `r` of the first region's output block lies at that row of the array. -/
theorem outRow0 (t : Fin cfg0.N) (r : Fin 256) : (((cfg0.win 2).blk t).view.emb (ix2 r 0)) 0 = row t r := by
  refine Fin.ext ?_
  show _ = t.val * 256 + r.val
  blk_simp [(index0 t).2.2]

/-! ## The first region -/

section
variable {x : FVec Ideal S4096x3 .f32} {D : Fin 4096 → Fin 4096 → ℝ}

/-- A block's distances are the reference's, at the block's rows. -/
theorem dist0 (hx : V c main_arg0 = x) (hT : ∀ k j, V c main_call0_v0 (ix2 k j) = x (ix2 j k))
    (t : Fin cfg0.N) (r : Fin 256) (j : Fin 4096) :
    dist (iblk0 V c 0 t) (iblk0 V c 1 t) r j = val_main_v13 (F := Ideal) x (ix2 (row t r) j) := by
  rw [dist_eq, dist_ref]
  simp only [points0, columns0, hx, hT]

/-- The first region's output: each point's distance to measure. -/
theorem dtm_array (hx : V c main_arg0 = x) (hT : ∀ k j, V c main_call0_v0 (ix2 k j) = x (ix2 j k))
    (hD : ∀ i j, val_main_v13 (F := Ideal) x (ix2 i j) = (D i j : EReal)) :
    (dat0 V c).arrAt 2 cfg0.N = fun i => val_main_v19 (F := Ideal) x (ix1 (i 0)) := by
  refine (dat0 V c).arrAt_eq_of_covers 2 _ (by decide +kernel) fun t hf y => ?_
  blk_simp
  rw [after0_2]
  unfold outsAt0
  rw [outCol]
  obtain ⟨r, z, rfl⟩ : ∃ (r : Fin 256) (z : Fin 1), y = ix2 r z := ⟨y 0, y 1, by blk_ext⟩
  obtain rfl : z = 0 := Subsingleton.elim _ _
  obtain ⟨v, hv, hn⟩ := dtmCol_near (iblk0 V c 0 t) (iblk0 V c 1 t) r (D := D (row t r)) fun j => by rw [dist0 V c hx hT, hD]
  obtain ⟨v', hv', hn'⟩ := dtm_ref x (row t r) (hD _)
  rw [hv, hn.unique hn', ← hv']
  show _ = val_main_v19 (F := Ideal) x (ix1 ((((cfg0.win 2).blk t).view.emb (ix2 r 0)) 0))
  rw [outRow0]
end

/-! ## The second region -/

/-- The second region's payload at one pair of points. -/
theorem edge_payload (x0 : Vec Ideal S256x3 .f32) (x1 : Vec Ideal S3x4096 .f32) (x2 : Vec Ideal S256x1 .f32)
    (x3 : Vec Ideal S1x4096 .f32) (r : Fin 256) (j : Fin 4096) :
    k1_pay1 x0 x1 x2 x3 (ix2 r j) = edge (x2 (ix2 r 0)) (x3 (ix2 0 j)) (dist x0 x1 r j) := by
  rw [dist_eq]
  unfold edge
  pointwise [k1_pay1]

/-- The second region's output: the edge value of each pair. -/
theorem edge_array {x : FVec Ideal S4096x3 .f32} (hx : V c main_arg0 = x)
    (hT : ∀ k j, V c main_call0_v0 (ix2 k j) = x (ix2 j k)) (h1 : ∀ i, V c main_call0_v1 (ix2 i 0) = val_main_v19 (F := Ideal) x (ix1 i))
    (h2 : ∀ j, V c main_call0_v2 (ix2 0 j) = val_main_v19 (F := Ideal) x (ix1 j)) :
    (dat1 V c).arrAt 4 cfg1.N = val_main_v41 (F := Ideal) x := by
  refine (dat1 V c).arrAt_eq_of_covers 4 _ (by decide +kernel) fun t hf y => ?_
  blk_simp
  rw [after1_4]
  frame_out
  obtain ⟨r, j, rfl⟩ : ∃ (r : Fin 256) (j : Fin 4096), y = ix2 r j := ⟨y 0, y 1, by blk_ext⟩
  rw [edge_payload, dtmCol1, dtmRow1, h1, h2, dist_eq]
  simp only [points1, columns1, hx, hT]
  rw [← dist_ref, ← edge_ref]
  congr 1
  blk_ext [index1 t, row]

end Cert.KernelIdeal.Hand

end
-- ==== Proof.RealPoints.lean ====
/- Points whose coordinates are real have real squared distances. -/
module

public import proofs.«01_k».proof.Proof.RefRows

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.RowModel Cert.FloatWords

/-- The squared distances of points with real coordinates are real. -/
theorem dist_real (x : FVec Ideal S4096x3 .f32) {X : Fin 4096 → Fin 3 → ℝ} (hX : ∀ i k, x (ix2 i k) = (X i k : EReal)) :
    ∃ D : Fin 4096 → Fin 4096 → ℝ, ∀ i j, val_main_v13 (F := Ideal) x (ix2 i j) = (D i j : EReal) := by
  refine ⟨fun i j => max (∑ k : Fin 3, X i k * X i k + ∑ k : Fin 3, X j k * X j k - 2 * ∑ k : Fin 3, X i k * X j k) 0, fun i j => ?_⟩
  rw [dist_ref, two_f32]
  simp only [hX, ← EReal.coe_mul, ← coe_sum, ← EReal.coe_add, ← EReal.coe_sub]
  rw [EReal.coe_strictMono.monotone.map_max, EReal.coe_zero]

/-- An extended real strictly between the infinities is real. -/
theorem real_of_between {a : EReal} (h1 : ⊥ < a) (h2 : a < ⊤) : ∃ r : ℝ, a = (r : EReal) :=
  ⟨a.toReal, (EReal.coe_toReal h2.ne h1.ne').symm⟩

end Cert.ReferenceIdeal.Hand

end
-- ==== Proof.HostSteps.lean ====
/- What the host's two steps leave: the points' transpose before the first region, and between the regions the column of
   distances to measure laid out as a row.  With them the result array of the whole run is the reference's. -/
module

public import proofs.«01_k».proof.Proof.Arrays
public import proofs.«01_k».proof.Proof.RealPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.ReferenceIdeal.Read (val_main_v13 val_main_v19 val_main_v41)

variable (m : (ℓ : Loc nD τ sig) → Buf (Elt Ideal) ℓ) (ρ : Dev nD → PrngReg) (c : Dev nD)

/-- Before the first region the points are as at the start. -/
theorem points_V1 : V1 m ρ c main_arg0 = m (c.tc.loc main_arg0) := W1_args m ρ c main_arg0 (by decide)

/-- Before the second region the points are as at the start. -/
theorem points_V3 : V3 m ρ c main_arg0 = m (c.tc.loc main_arg0) := W3_args m ρ c main_arg0 (by decide)

/-- The first host step transposes the points. -/
theorem transposed_V1 (k : Fin 3) (j : Fin 4096) : V1 m ρ c main_call0_v0 (ix2 k j) = m (c.tc.loc main_arg0) (ix2 j k) := by
  have h : V1 m ρ c main_call0_v0 = transpose S3x4096 [1, 0] (m (c.tc.loc main_arg0)) transposes_S4096x3_S3x4096_1_0 := by
    unfold V1 W1; after_results; rfl
  rw [h]
  pointwise

/-- The transpose is still there before the second region. -/
theorem transposed_V3 : V3 m ρ c main_call0_v0 = V1 m ρ c main_call0_v0 :=
  (W3_of m ρ c main_call0_v0 (by decide)).trans (W2_of m ρ c main_call0_v0 (by decide +kernel))

/-- Before the second region the first region's output is as that region left it. -/
theorem column_V3 : V3 m ρ c main_call0_v1 = (dat0 (V1 m ρ) c).arrAt 2 cfg0.N :=
  (W3_of m ρ c main_call0_v1 (by decide)).trans (W2_arr m ρ c 2)

/-- The second host step lays the column out as a row. -/
theorem row_V3 (j : Fin 4096) : V3 m ρ c main_call0_v2 (ix2 0 j) = V3 m ρ c main_call0_v1 (ix2 j 0) := by
  have h : V3 m ρ c main_call0_v2 = shapeCast S1x4096 (W2 m ρ c (Proc.devRef .tc main_call0_v1)) shapeCasts_S4096x1_S1x4096 := by
    unfold V3 W3; after_results; rfl
  rw [h, show V3 m ρ c main_call0_v1 = W2 m ρ c (Proc.devRef .tc main_call0_v1) from W3_of m ρ c main_call0_v1 (by decide)]
  pointwise

/-- The whole run's result array is the reference's, where the coordinates are real. -/
theorem result {X : Fin 4096 → Fin 3 → ℝ} (hX : ∀ i k, m (c.tc.loc main_arg0) (ix2 i k) = (X i k : EReal)) :
    (dat1 (V3 m ρ) c).arrAt 4 cfg1.N = val_main_v41 (F := Ideal) (m (c.tc.loc main_arg0)) := by
  obtain ⟨D, hD⟩ := Cert.ReferenceIdeal.Hand.dist_real (m (c.tc.loc main_arg0)) hX
  have h1 : ∀ i, V3 m ρ c main_call0_v1 (ix2 i 0) = val_main_v19 (F := Ideal) (m (c.tc.loc main_arg0)) (ix1 i) := fun i => by
    rw [column_V3, dtm_array (V1 m ρ) c (points_V1 m ρ c) (transposed_V1 m ρ c) hD]; rfl
  refine edge_array (V3 m ρ) c (points_V3 m ρ c) (fun k j => ?_) h1 fun j => (row_V3 m ρ c j).trans (h1 j)
  rw [transposed_V3, transposed_V1]

end Cert.KernelIdeal.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.HostSteps
public import Idealize.ShloMosaic.Adequacy
public import Idealize.ShloMosaic.Init

@[expose] public section

set_option maxRecDepth 16384

noncomputable section

namespace Cert.Proof

open Idealize.ShloMosaic Idealize.SL.Sem
open Idealize.ShloMosaic.TcCoe Idealize.ShloMosaic.Tactic
open Cert.ReferenceIdeal.Read (val_main_v41 val_main_v41_eq)

/-- The precondition's shape fact: a scalar is laid out over the points' array. -/
theorem finite_facts : Cert.Pre_finite.Facts := ⟨by decide⟩

/-- Under the precondition every coordinate is real. -/
theorem real_points [Cert.Pre_finite.Facts] (x : FVec Ideal Cert.Pre_finite.S4096x3 .f32)
    (h : Cert.Pre_finite.fn (F := Ideal) x = fun _ => 1#1) (i : Fin 4096) (k : Fin 3) : ∃ r : ℝ, x (ix2 i k) = (r : EReal) := by
  have e : Cert.Pre_finite.fn (F := Ideal) x (ix2 i k)
      = BitVec.ofBool (decide (x (ix2 i k) > Ideal.ofBits .f32 0xFF800000#32))
        &&& BitVec.ofBool (decide (x (ix2 i k) < Ideal.ofBits .f32 0x7F800000#32)) := by
    pointwise [Cert.Pre_finite.fn]
    rfl
  rw [h, Cert.FloatWords.negInf_f32, Cert.FloatWords.posInf_f32] at e
  by_cases h1 : ⊥ < x (ix2 i k) <;> by_cases h2 : x (ix2 i k) < ⊤ <;> simp only [gt_iff_lt, h1, h2] at e
  · exact Cert.ReferenceIdeal.Hand.real_of_between h1 h2
  all_goals exact absurd e (by decide)

/-- The reference terminates, leaves its argument unchanged, and every counter reads zero, as it declares none. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem (c.tc.loc Cert.ReferenceIdeal.main_arg0) = m (c.tc.loc Cert.ReferenceIdeal.main_arg0)) ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Both programs end holding the reference's result, as a function of the points. -/
theorem same_result [Cert.Pre_finite.Facts] : Cert.algebraic_KernelIdeal_ReferenceIdeal_pre_finite := by
  intro m g m' g' hpre hagree
  refine ⟨fun c => val_main_v41 (F := Ideal) (m (c.tc.loc Cert.KernelIdeal.main_arg0)), ?_, ?_⟩
  · refine (θ_run Cert.KernelIdeal.defs _ _).mono (fun r h c => ⟨(h c).1.trans ?_, (h c).2⟩) (Cert.KernelIdeal.Hand.run (F := Ideal) m g)
    choose X hX using real_points _ (hpre c)
    exact Cert.KernelIdeal.Hand.result m g c hX
  · refine (θ_run Cert.ReferenceIdeal.defs _ _).mono (fun r h c => ⟨(h c).1.trans ?_, (h c).2⟩)
      (Cert.ReferenceIdeal.Value.run (F := Ideal) m' g')
    rw [val_main_v41_eq, hagree c]

/-- `Cert.Claim`: the facts, the frames with and without the precondition, and the equation. -/
theorem claim : Cert.Claim :=
  ⟨Cert.Kernel.Gen.facts, Cert.KernelIdeal.Gen.facts, Cert.ReferenceIdeal.Gen.facts, finite_facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, trivial,
    letI := finite_facts; same_result⟩

end Cert.Proof

end
